-- ==== Defs.lean ====
def Pre_Kernel [hPre_cols_in_range : Cert.Pre_cols_in_range.Facts] (m : (ℓ : Loc Cert.Kernel.nD Cert.Kernel.τ Cert.Kernel.sig) → Buf (Elt Bits) ℓ) : Prop :=
  ∀ c : Dev Cert.Kernel.nD,
    (Cert.Pre_cols_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_cols_in_range : Cert.Pre_cols_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_cols_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_one_per_row [hPre_one_per_row : Cert.Pre_one_per_row.Facts] (m : (ℓ : Loc Cert.KernelIdeal.nD Cert.KernelIdeal.τ Cert.KernelIdeal.sig) → Buf (Elt Ideal) ℓ) : Prop :=
  ∀ c : Dev Cert.KernelIdeal.nD,
    (Cert.Pre_one_per_row.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_one_per_row [hPre_one_per_row : Cert.Pre_one_per_row.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_one_per_row.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_cols_in_range : Cert.Pre_cols_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_cols_in_range : Cert.Pre_cols_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_one_per_row [hKernelIdeal : Cert.KernelIdeal.Facts] [hPre_one_per_row : Cert.Pre_one_per_row.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_one_per_row m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_one_per_row [hReferenceIdeal : Cert.ReferenceIdeal.Facts] [hPre_one_per_row : Cert.Pre_one_per_row.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_per_row m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_one_per_row [hKernelIdeal : Cert.KernelIdeal.Facts] [hReferenceIdeal : Cert.ReferenceIdeal.Facts] [hPre_one_per_row : Cert.Pre_one_per_row.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_one_per_row m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_cols_in_range : Cert.Pre_cols_in_range.Facts) (hPre_one_per_row : Cert.Pre_one_per_row.Facts),
    quiescent_Kernel (hKernel := hKernel) (hPre_cols_in_range := hPre_cols_in_range)
    ∧ quiescent_KernelIdeal (hKernelIdeal := hKernelIdeal) (hPre_cols_in_range := hPre_cols_in_range)
    ∧ quiescent_KernelIdeal_pre_one_per_row (hKernelIdeal := hKernelIdeal) (hPre_one_per_row := hPre_one_per_row)
    ∧ quiescent_ReferenceIdeal (hReferenceIdeal := hReferenceIdeal)
    ∧ quiescent_ReferenceIdeal_pre_one_per_row (hReferenceIdeal := hReferenceIdeal) (hPre_one_per_row := hPre_one_per_row)
    ∧ preserves_Kernel_KernelIdeal
    ∧ algebraic_KernelIdeal_ReferenceIdeal_pre_one_per_row (hKernelIdeal := hKernelIdeal) (hReferenceIdeal := hReferenceIdeal) (hPre_one_per_row := hPre_one_per_row)
-- ==== Pre_cols_in_range.lean ====
abbrev S5 : Shape := ⟨1, ![5]⟩
abbrev S4 : Shape := ⟨1, ![4]⟩
abbrev S_ : Shape := ⟨0, ![]⟩

class Facts : Prop where
  bcast_S_S4 : S_.BroadcastsInDim S4 (![] : Fin 0 → Fin S4.rank)
  reducesTo_S4_S_d0 : S4.ReducesTo [0] S_
  h_S_ : 0 < S_.numel

variable [Facts]

def fn {F : FTy → Type} [FloatOps F] (main_arg0 : IVec S5 32) (main_arg1 : IVec S4 32) (main_arg2 : FVec F S4 .f32) : IVec S_ 1 :=
  let main_c : IVec S_ 32 := constantI S_ 32 0#32
  let main_v0 : IVec S4 32 := broadcastInDim S4 ![] bcast_S_S4 main_c
  let main_v1 : IVec S4 1 := cmpi .sge main_arg1 main_v0
  let main_c_0 : IVec S_ 32 := constantI S_ 32 4#32
  let main_v2 : IVec S4 32 := broadcastInDim S4 ![] bcast_S_S4 main_c_0
  let main_v3 : IVec S4 1 := cmpi .slt main_arg1 main_v2
  let main_v4 : IVec S4 1 := andi main_v1 main_v3
  let main_c_1 : IVec S_ 1 := constantI S_ 1 1#1
  let main_v5 : IVec S_ 1 := (fun x v => Host.reduce IntOp.andi x v reducesTo_S4_S_d0 h_S_) main_v4 main_c_1
  main_v5
-- ==== Pre_one_per_row.lean ====
abbrev S5 : Shape := ⟨1, ![5]⟩
abbrev S4 : Shape := ⟨1, ![4]⟩
abbrev S_ : Shape := ⟨0, ![]⟩

class Facts : Prop where
  reducesTo_S5_S_d0 : S5.ReducesTo [0] S_
  h_S_ : 0 < S_.numel
  bcast_S_S4 : S_.BroadcastsInDim S4 (![] : Fin 0 → Fin S4.rank)
  reducesTo_S4_S_d0 : S4.ReducesTo [0] S_

variable [Facts]

def fn {F : FTy → Type} [FloatOps F] (main_arg0 : IVec S5 32) (main_arg1 : IVec S4 32) (main_arg2 : FVec F S4 .f32) : IVec S_ 1 :=
  let main_v0 : IVec S5 32 := iotaInDim S5 32 0
  let main_v1 : IVec S5 1 := cmpi .eq main_arg0 main_v0
  let main_c : IVec S_ 1 := constantI S_ 1 1#1
  let main_v2 : IVec S_ 1 := (fun x v => Host.reduce IntOp.andi x v reducesTo_S5_S_d0 h_S_) main_v1 main_c
  let main_c_0 : IVec S_ 32 := constantI S_ 32 0#32
  let main_v3 : IVec S4 32 := broadcastInDim S4 ![] bcast_S_S4 main_c_0
  let main_v4 : IVec S4 1 := cmpi .sge main_arg1 main_v3
  let main_c_1 : IVec S_ 32 := constantI S_ 32 4#32
  let main_v5 : IVec S4 32 := broadcastInDim S4 ![] bcast_S_S4 main_c_1
  let main_v6 : IVec S4 1 := cmpi .slt main_arg1 main_v5
  let main_v7 : IVec S4 1 := andi main_v4 main_v6
  let main_c_2 : IVec S_ 1 := constantI S_ 1 1#1
  let main_v8 : IVec S_ 1 := (fun x v => Host.reduce IntOp.andi x v reducesTo_S4_S_d0 h_S_) main_v7 main_c_2
  let main_v9 : IVec S_ 1 := andi main_v2 main_v8
  main_v9
-- ==== Kernel.lean ====
abbrev S5 : Shape := ⟨1, ![5]⟩
abbrev S4 : Shape := ⟨1, ![4]⟩
abbrev S16 : Shape := ⟨1, ![16]⟩
abbrev S_ : Shape := ⟨0, ![]⟩
abbrev S1 : Shape := ⟨1, ![1]⟩
abbrev S4x4 : Shape := ⟨2, ![4, 4]⟩

abbrev nBuf : Table → Nat
  | .hbm => 5
  | .local .scScalar .smem => 4
  | _ => 0

abbrev bufTy : (tb : Table) → Fin (nBuf tb) → BufTy
  | .hbm, ⟨0, _⟩ => ⟨S5, .i32⟩
  | .hbm, ⟨1, _⟩ => ⟨S4, .i32⟩
  | .hbm, ⟨2, _⟩ => ⟨S4, .f32⟩
  | .hbm, ⟨3, _⟩ => ⟨S16, .f32⟩
  | .hbm, ⟨4, _⟩ => ⟨S4x4, .f32⟩
  | .local .scScalar .smem, ⟨0, _⟩ => ⟨S5, .i32⟩
  | .local .scScalar .smem, ⟨1, _⟩ => ⟨S4, .i32⟩
  | .local .scScalar .smem, ⟨2, _⟩ => ⟨S4, .f32⟩
  | .local .scScalar .smem, ⟨3, _⟩ => ⟨S16, .f32⟩
  | _, _ => ⟨S5, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_arg0_scs : Ref sig .scScalar := ⟨.hbm, 0, rfl⟩
abbrev main_arg1_scs : Ref sig .scScalar := ⟨.hbm, 1, rfl⟩
abbrev main_arg2_scs : Ref sig .scScalar := ⟨.hbm, 2, rfl⟩
abbrev main_v0_scs : Ref sig .scScalar := ⟨.hbm, 3, rfl⟩
abbrev cc0_scratch0 : Ref sig .scScalar := ⟨.smem, 0, rfl⟩
abbrev cc0_scratch1 : Ref sig .scScalar := ⟨.smem, 1, rfl⟩
abbrev cc0_scratch2 : Ref sig .scScalar := ⟨.smem, 2, rfl⟩
abbrev cc0_scratch3 : Ref sig .scScalar := ⟨.smem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

def k0_off1 (v33 : BitVec 32) : Fin 1 → Nat :=
  let c0_i32_16 : BitVec 32 := 0#32
  let v34 : BitVec 32 := Scalar.addi c0_i32_16 v33
  let v35 : Index := Scalar.indexCast v34
  ![v35.toNat]

def k0_chk1 (v33 : BitVec 32) : Prop :=
  (∀ a, (k0_off1 v33) a + S1.size a ≤ S16.size a)
theorem k0_off1_inb : ∀ (v33 : BitVec 32) (k0_hw1 : k0_chk1 v33), ∀ a, (k0_off1 v33) a + S1.size a ≤ S16.size a := fun v33 k0_hw1 => k0_hw1

def k0_off2 (v43 : BitVec 32) : Fin 1 → Nat :=
  let c4_i32_19 : BitVec 32 := 4#32
  let v44 : BitVec 32 := Scalar.addi c4_i32_19 v43
  let v45 : Index := Scalar.indexCast v44
  ![v45.toNat]

def k0_chk2 (v43 : BitVec 32) : Prop :=
  (∀ a, (k0_off2 v43) a + S1.size a ≤ S16.size a)
theorem k0_off2_inb : ∀ (v43 : BitVec 32) (k0_hw2 : k0_chk2 v43), ∀ a, (k0_off2 v43) a + S1.size a ≤ S16.size a := fun v43 k0_hw2 => k0_hw2

def k0_off3 (v53 : BitVec 32) : Fin 1 → Nat :=
  let c8_i32_22 : BitVec 32 := 8#32
  let v54 : BitVec 32 := Scalar.addi c8_i32_22 v53
  let v55 : Index := Scalar.indexCast v54
  ![v55.toNat]

def k0_chk3 (v53 : BitVec 32) : Prop :=
  (∀ a, (k0_off3 v53) a + S1.size a ≤ S16.size a)
theorem k0_off3_inb : ∀ (v53 : BitVec 32) (k0_hw3 : k0_chk3 v53), ∀ a, (k0_off3 v53) a + S1.size a ≤ S16.size a := fun v53 k0_hw3 => k0_hw3

def k0_off4 (v63 : BitVec 32) : Fin 1 → Nat :=
  let c12_i32_25 : BitVec 32 := 12#32
  let v64 : BitVec 32 := Scalar.addi c12_i32_25 v63
  let v65 : Index := Scalar.indexCast v64
  ![v65.toNat]

def k0_chk4 (v63 : BitVec 32) : Prop :=
  (∀ a, (k0_off4 v63) a + S1.size a ≤ S16.size a)
theorem k0_off4_inb : ∀ (v63 : BitVec 32) (k0_hw4 : k0_chk4 v63), ∀ a, (k0_off4 v63) a + S1.size a ≤ S16.size a := fun v63 k0_hw4 => k0_hw4

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== ReferenceIdeal.lean ====
abbrev S5 : Shape := ⟨1, ![5]⟩
abbrev S4 : Shape := ⟨1, ![4]⟩
abbrev S1x5 : Shape := ⟨2, ![1, 5]⟩
abbrev S4x1 : Shape := ⟨2, ![4, 1]⟩
abbrev S4x5 : Shape := ⟨2, ![4, 5]⟩
abbrev S_ : Shape := ⟨0, ![]⟩
abbrev S4x4 : Shape := ⟨2, ![4, 4]⟩
abbrev S4x2 : Shape := ⟨2, ![4, 2]⟩

abbrev nBuf : Space → Nat
  | .hbm => 35
  | .vmem => 0
  | .smem => 0
  | _ => 0

abbrev bufTy : (tb : Table) → Fin (tcTables nBuf tb) → BufTy
  | .hbm, ⟨0, _⟩ => ⟨S5, .i32⟩
  | .hbm, ⟨1, _⟩ => ⟨S4, .i32⟩
  | .hbm, ⟨2, _⟩ => ⟨S4, .f32⟩
  | .hbm, ⟨3, _⟩ => ⟨S1x5, .i32⟩
  | .hbm, ⟨4, _⟩ => ⟨S4, .i32⟩
  | .hbm, ⟨5, _⟩ => ⟨S4x1, .i32⟩
  | .hbm, ⟨6, _⟩ => ⟨S4x5, .i32⟩
  | .hbm, ⟨7, _⟩ => ⟨S4x5, .i32⟩
  | .hbm, ⟨8, _⟩ => ⟨S4x5, .i1⟩
  | .hbm, ⟨9, _⟩ => ⟨S4x5, .i32⟩
  | .hbm, ⟨10, _⟩ => ⟨S_, .i32⟩
  | .hbm, ⟨11, _⟩ => ⟨S4, .i32⟩
  | .hbm, ⟨12, _⟩ => ⟨S_, .i32⟩
  | .hbm, ⟨13, _⟩ => ⟨S4, .i32⟩
  | .hbm, ⟨14, _⟩ => ⟨S4, .i32⟩
  | .hbm, ⟨15, _⟩ => ⟨S_, .f32⟩
  | .hbm, ⟨16, _⟩ => ⟨S4x4, .f32⟩
  | .hbm, ⟨17, _⟩ => ⟨S_, .i32⟩
  | .hbm, ⟨18, _⟩ => ⟨S4, .i32⟩
  | .hbm, ⟨19, _⟩ => ⟨S4, .i1⟩
  | .hbm, ⟨20, _⟩ => ⟨S_, .i32⟩
  | .hbm, ⟨21, _⟩ => ⟨S4, .i32⟩
  | .hbm, ⟨22, _⟩ => ⟨S4, .i32⟩
  | .hbm, ⟨23, _⟩ => ⟨S4, .i32⟩
  | .hbm, ⟨24, _⟩ => ⟨S_, .i32⟩
  | .hbm, ⟨25, _⟩ => ⟨S4, .i32⟩
  | .hbm, ⟨26, _⟩ => ⟨S4, .i1⟩
  | .hbm, ⟨27, _⟩ => ⟨S_, .i32⟩
  | .hbm, ⟨28, _⟩ => ⟨S4, .i32⟩
  | .hbm, ⟨29, _⟩ => ⟨S4, .i32⟩
  | .hbm, ⟨30, _⟩ => ⟨S4, .i32⟩
  | .hbm, ⟨31, _⟩ => ⟨S4x1, .i32⟩
  | .hbm, ⟨32, _⟩ => ⟨S4x1, .i32⟩
  | .hbm, ⟨33, _⟩ => ⟨S4x2, .i32⟩
  | .hbm, ⟨34, _⟩ => ⟨S4x4, .f32⟩
  | _, _ => ⟨S5, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_3 : Ref sig .tc := ⟨.hbm, 24, rfl⟩
abbrev main_v16 : Ref sig .tc := ⟨.hbm, 25, rfl⟩
abbrev main_v17 : Ref sig .tc := ⟨.hbm, 26, rfl⟩
abbrev main_c_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Proof.Pre.lean ====
/-
  What the two preconditions say, element by element: `cols_in_range` that every column lies in `[0, 4)`;
  `one_per_row` that, besides, the row pointers are `0, 1, 2, 3, 4`.
-/
module

public import proofs.«01_k».proof.Proof.Gen.Pre_cols_in_range
public import proofs.«01_k».proof.Proof.Gen.Pre_one_per_row
public import Idealize.ShloMosaic.Lib.StableHlo.Predicate

@[expose] public section

noncomputable section

namespace Cert.Proof.Pre

open Idealize.ShloMosaic

variable {F : FTy → Type} [FloatOps F]

omit [FloatOps F] in
/-- An "and" of two bits is one only when both are. -/
theorem and_one (a b : BitVec 1) (h : IntOp.andi a b = 1#1) : a = 1#1 ∧ b = 1#1 := by
  revert a b; decide

/-- A left fold of "and" that ends at one met only ones. -/
theorem fold_one {ι : Type} (x : ι → BitVec 1) (L : List ι) (a : BitVec 1) (h : L.foldl (fun r n => IntOp.andi r (x n)) a = 1#1) :
    a = 1#1 ∧ ∀ n ∈ L, x n = 1#1 := by
  induction L generalizing a with
  | nil => exact ⟨h, nofun⟩
  | cons n L ih =>
    obtain ⟨h1, h2⟩ := ih _ h
    obtain ⟨ha, hn⟩ := and_one _ _ h1
    refine ⟨ha, fun k hk => ?_⟩
    rcases List.mem_cons.mp hk with rfl | hk
    · exact hn
    · exact h2 k hk

/-- A reduction by "and" to one element that comes out one met only ones. -/
theorem all_one {s u : Shape} {axes : List (Fin s.rank)} (x : s.Idx → BitVec 1) (init : u.Idx → BitVec 1)
    (h : s.ReducesTo axes ⟨0, ![]⟩) (hu : 0 < u.numel) (j : (⟨0, ![]⟩ : Shape).Idx) (hr : Host.reduce IntOp.andi x init h hu j = 1#1) (i : s.Idx) :
    x i = 1#1 := by
  have hi := (fold_one (fun n => x (s.rowMajor.symm n)) _ _ hr).2 (s.rowMajor i)
    (List.mem_filter.mpr ⟨List.mem_finRange _, decide_eq_true (funext fun a => a.elim0)⟩)
  simpa using hi

/-- A word that is at least zero and below four, both read signed, is below four. -/
theorem word_lt (w : BitVec 32) (h0 : IntOp.cmpi .sge w 0#32 = 1#1) (h4 : IntOp.cmpi .slt w 4#32 = 1#1) : w.toNat < 4 := by
  have h0' : (0#32 : BitVec 32).sle w = true := (StableHlo.Predicate.ofBool_eq_one_iff _).mp h0
  have h4' : w.slt 4#32 = true := (StableHlo.Predicate.ofBool_eq_one_iff _).mp h4
  simp only [BitVec.sle, BitVec.slt, decide_eq_true_eq, BitVec.toInt_eq_toNat_cond, BitVec.toNat_ofNat] at h0' h4'
  have := w.isLt
  split at h4' <;> omega

/-- Under `cols_in_range` every column is below four. -/
theorem cols_lt (row : IVec Cert.Pre_cols_in_range.S5 32) (col : IVec Cert.Pre_cols_in_range.S4 32) (val : FVec F Cert.Pre_cols_in_range.S4 .f32)
    (h : Cert.Pre_cols_in_range.fn (F := F) row col val = fun _ => 1#1) (j : Cert.Pre_cols_in_range.S4.Idx) : (col j).toNat < 4 := by
  obtain ⟨h0, h4⟩ := and_one _ _ (all_one _ _ _ _ (fun a => a.elim0) (congrFun h fun a => a.elim0) j)
  exact word_lt _ h0 h4

/-- Under `one_per_row` row pointer `i` is `i` and every column is below four. -/
theorem one_per_row (row : IVec Cert.Pre_one_per_row.S5 32) (col : IVec Cert.Pre_one_per_row.S4 32) (val : FVec F Cert.Pre_one_per_row.S4 .f32)
    (h : Cert.Pre_one_per_row.fn (F := F) row col val = fun _ => 1#1) :
    (∀ i, row i = BitVec.ofNat 32 (i 0).val) ∧ ∀ j, (col j).toNat < 4 := by
  obtain ⟨hr, hc⟩ := and_one _ _ (congrFun h fun a => a.elim0)
  refine ⟨fun i => ?_, fun j => ?_⟩
  · exact StableHlo.Predicate.cmpi_eq_iff.mp (all_one _ _ _ _ (fun a => a.elim0) hr i)
  · obtain ⟨h0, h4⟩ := and_one _ _ (all_one _ _ _ _ (fun a => a.elim0) hc j)
    exact word_lt _ h0 h4

end Cert.Proof.Pre

end
-- ==== Proof.Dense.lean ====
/-
  What the kernel leaves in its sixteen-element accumulator, as plain arithmetic: sixteen zeros, then for each row
  `k = 0, 1, 2, 3` in turn the value `val k` added at position `4 * k + col k`. Every column lies in `[0, 4)`, so row
  `k` touches only positions `4 * k .. 4 * k + 3`, no two rows meet, and the closed form `dense_apply` says what stands
  at every position.
-/
module

public import Idealize.ShloMosaic.PureOps

@[expose] public section

noncomputable section

namespace Cert.Proof.Dense

open Idealize.ShloMosaic

variable {F : FTy → Type} [FloatOps F]

/-- A vector of four elements (the columns, the values) and one of sixteen (the dense rows laid end to end). -/
abbrev V4 : Shape := ⟨1, ![4]⟩
abbrev V16 : Shape := ⟨1, ![16]⟩

/-- Position `k` of a vector of four. -/
def pos (k : Fin 4) : V4.Idx := fun | 0 => k | ⟨_ + 1, h⟩ => absurd h (Nat.not_lt.2 (Nat.le_add_left _ _))

omit [FloatOps F] in
@[simp] theorem pos_val (k : Fin 4) : (pos k 0).val = k.val := rfl

/-- An index of a vector of four is the position its coordinate names. -/
theorem eq_pos (j : V4.Idx) (k : Fin 4) (h : (j 0).val = k.val) : j = pos k := by
  funext a
  obtain rfl : a = 0 := Subsingleton.elim _ _
  exact Fin.ext h

/-- A word below four is one of four words. -/
theorem word_cases (w : BitVec 32) (h : w.toNat < 4) : w = 0#32 ∨ w = 1#32 ∨ w = 2#32 ∨ w = 3#32 := by
  have : w.toNat = 0 ∨ w.toNat = 1 ∨ w.toNat = 2 ∨ w.toNat = 3 := by omega
  rcases this with h | h | h | h
  · exact .inl (BitVec.eq_of_toNat_eq h)
  · exact .inr (.inl (BitVec.eq_of_toNat_eq h))
  · exact .inr (.inr (.inl (BitVec.eq_of_toNat_eq h)))
  · exact .inr (.inr (.inr (BitVec.eq_of_toNat_eq h)))

/-- The float zero of the kernel's text. -/
def zero : F .f32 := Scalar.ofBits .f32 0x00000000#32

/-- `b` added at position `p` of the sixteen. -/
def put (A : V16.Idx → F .f32) (p : ℕ) (b : F .f32) : V16.Idx → F .f32 :=
  fun j => if (j 0).val = p then Scalar.addf (A j) b else A j

/-- The accumulator after rows `0 .. 3`, in that order. -/
def dense (col : V4.Idx → BitVec 32) (val : V4.Idx → F .f32) : V16.Idx → F .f32 :=
  put (put (put (put (fun _ => zero) (col (pos 0)).toNat (val (pos 0))) (4 + (col (pos 1)).toNat) (val (pos 1)))
    (8 + (col (pos 2)).toNat) (val (pos 2))) (12 + (col (pos 3)).toNat) (val (pos 3))

/-- Position `4 * k + c` of the accumulator holds zero plus row `k`'s value where `c` is row `k`'s column, zero
    elsewhere. -/
theorem dense_apply (col : V4.Idx → BitVec 32) (val : V4.Idx → F .f32) (hcol : ∀ j, (col j).toNat < 4)
    (j : V16.Idx) (k : Fin 4) (c : ℕ) (hc : c < 4) (hj : (j 0).val = 4 * k.val + c) :
    dense col val j = if (col (pos k)).toNat = c then Scalar.addf zero (val (pos k)) else zero := by
  have h0 := hcol (pos 0); have h1 := hcol (pos 1); have h2 := hcol (pos 2); have h3 := hcol (pos 3)
  unfold dense put
  fin_cases k <;> simp only [Fin.zero_eta, Fin.mk_one, Fin.reduceFinMk, Fin.val_zero, Fin.val_one, Fin.val_two, Fin.isValue] at hj ⊢
  · rw [if_neg (by omega), if_neg (by omega), if_neg (by omega)]
    exact if_congr (by omega) rfl rfl
  · rw [if_neg (by omega), if_neg (by omega)]
    rw [if_neg (by omega : ¬ (j 0).val = (col (pos 0)).toNat)]
    exact if_congr (by omega) rfl rfl
  · rw [if_neg (by omega), if_neg (by omega : ¬ (j 0).val = 4 + (col (pos 1)).toNat),
      if_neg (by omega : ¬ (j 0).val = (col (pos 0)).toNat)]
    exact if_congr (by omega) rfl rfl
  · rw [if_neg (by omega : ¬ (j 0).val = 8 + (col (pos 2)).toNat), if_neg (by omega : ¬ (j 0).val = 4 + (col (pos 1)).toNat),
      if_neg (by omega : ¬ (j 0).val = (col (pos 0)).toNat)]
    exact if_congr (by omega) rfl rfl

end Cert.Proof.Dense

end
-- ==== Proof.KernelIdealRun.lean ====
/-
  The run of the program `Cert.KernelIdeal`, for any float values: from a launch whose columns lie below four it
  terminates without a fault, with its arguments as they were, its result at `Dense.dense` of the columns and the
  values laid out as four rows of four, and every semaphore counter back at zero.

  The kernel runs on the one sequencer of the call. It copies the columns and the values to its scalar memory, clears
  sixteen elements there, adds each value at the position its column names, and copies the sixteen elements out. The
  row pointers it never reads. `body` is that run on the arrays alone; `core` puts it between what the launch hands the
  sequencer and what it takes back; `hmain` is the program around the call; `run_main` is the whole.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Batch
public import Idealize.ShloMosaic.Lib.Tactic
public import proofs.«01_k».proof.Proof.Dense
public import proofs.«01_k».proof.Proof.Gen.KernelIdeal
public import proofs.«01_k».proof.Proof.Gen.KernelIdeal.Skeleton

@[expose] public section

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem takes it -/

/-- The program's labels, its launch configuration, its definitions, and the variants (it has no loop). -/
abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The facts about the launch semaphores and the SparseCores' buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The proof's own algebra: the rounds of the launch's handshakes, and counters. -/
abbrev UH : Type := URounds (GSem nD τ sig) ℕ
abbrev UU : Type := UH × Counters

local notation "𝕄" => MT nD τ sig (HIx 1) (Elt F) ℕ UU ℕ

/-- Where the handshakes' rounds lie in it. -/
abbrev EH : Emb UH (MT nD τ sig (HIx 1) (Elt F) ℕ UU ℕ) := embL

/-! ## The arrays -/

variable (m : (ℓ : Loc nD τ sig) → Buf (Elt F) ℓ) (ρ : Dev nD → PrngReg)

local notation "rowW" => (Memref.whole Cert.KernelIdeal.main_arg0_scs : Memref Cert.KernelIdeal.sig Kind.scScalar Space.hbm Cert.KernelIdeal.S5 EltTy.i32)
local notation "colW" => (Memref.whole Cert.KernelIdeal.main_arg1_scs : Memref Cert.KernelIdeal.sig Kind.scScalar Space.hbm Cert.KernelIdeal.S4 EltTy.i32)
local notation "valW" => (Memref.whole Cert.KernelIdeal.main_arg2_scs : Memref Cert.KernelIdeal.sig Kind.scScalar Space.hbm Cert.KernelIdeal.S4 EltTy.f32)
local notation "outW" => (Memref.whole Cert.KernelIdeal.main_v0_scs : Memref Cert.KernelIdeal.sig Kind.scScalar Space.hbm Cert.KernelIdeal.S16 EltTy.f32)
local notation "sRow" => (Memref.whole Cert.KernelIdeal.cc0_scratch0 : Memref Cert.KernelIdeal.sig Kind.scScalar Space.smem Cert.KernelIdeal.S5 EltTy.i32)
local notation "sCol" => (Memref.whole Cert.KernelIdeal.cc0_scratch1 : Memref Cert.KernelIdeal.sig Kind.scScalar Space.smem Cert.KernelIdeal.S4 EltTy.i32)
local notation "sVal" => (Memref.whole Cert.KernelIdeal.cc0_scratch2 : Memref Cert.KernelIdeal.sig Kind.scScalar Space.smem Cert.KernelIdeal.S4 EltTy.f32)
local notation "sAcc" => (Memref.whole Cert.KernelIdeal.cc0_scratch3 : Memref Cert.KernelIdeal.sig Kind.scScalar Space.smem Cert.KernelIdeal.S16 EltTy.f32)

/-- The program's five arrays on device `d`: row pointers, columns, values, the call's result, the program's result. -/
abbrev rowLoc (d : Dev nD) : Loc nD τ sig := (SparseCore.T d).loc main_arg0
abbrev colLoc (d : Dev nD) : Loc nD τ sig := (SparseCore.T d).loc main_arg1
abbrev valLoc (d : Dev nD) : Loc nD τ sig := (SparseCore.T d).loc main_arg2
abbrev outLoc (d : Dev nD) : Loc nD τ sig := (SparseCore.T d).loc main_v0
abbrev resLoc (d : Dev nD) : Loc nD τ sig := (SparseCore.T d).loc main_v1

variable [FloatOps F]

section Body

variable (d : Dev nD) (c : Fin τ.nSC)

/-- The semaphores of the sequencer's copies: the one the two copies in share, and the one of the copy out. -/
abbrev inCell : GSem nD τ sig := (S d c, .dma cc0_scratch4.sem)
abbrev outCell : GSem nD τ sig := (S d c, .dma cc0_scoped0.sem)

omit [FloatOps F] in
/-- The sequencer's own semaphores at zero: the two its copies use, and the others. -/
theorem ownSems0_S :
    (ownSems0 (S d c) : sProp 𝕄)
      = iprop(semVal (inCell d c) 0 ∗ semVal (outCell d c) 0 ∗ bigSep (((ownCells (S d c)).erase (inCell d c)).erase (outCell d c)) fun g => semVal g 0) := by
  unfold SparseCore.Cfg.ownSems0
  rw [SparseCore.bigSep_erase' ((mem_ownCells (g := inCell d c)).mpr ⟨rfl, by show (SemLoc.dma cc0_scratch4.sem : SemLoc sig).isScoped .scScalar = true; decide⟩),
    SparseCore.bigSep_erase' (Finset.mem_erase.mpr ⟨by simp [inCell, outCell]; decide, (mem_ownCells (g := outCell d c)).mpr ⟨rfl, by
      show (SemLoc.dma cc0_scoped0.sem : SemLoc sig).isScoped .scScalar = true; decide⟩⟩)]

/-- The sequencer's three scratch arrays that the kernel uses. -/
abbrev bCol : DevRef τ sig := (Proc.scScalar c).devRef cc0_scratch1
abbrev bVal : DevRef τ sig := (Proc.scScalar c).devRef cc0_scratch2
abbrev bAcc : DevRef τ sig := (Proc.scScalar c).devRef cc0_scratch3

/-- Each of the three is the sequencer's own. -/
theorem mem_own1 : bCol c ∈ ownRefs (τ := τ) (.scScalar c) := SparseCore.Cfg.mem_ownRefs_of_owner rfl
theorem mem_own2 : bVal c ∈ ownRefs (τ := τ) (.scScalar c) := SparseCore.Cfg.mem_ownRefs_of_owner rfl
theorem mem_own3 : bAcc c ∈ ownRefs (τ := τ) (.scScalar c) := SparseCore.Cfg.mem_ownRefs_of_owner rfl

omit [FloatOps F] in
/-- The sequencer's own arrays at any contents: the three the kernel uses, and the others. -/
theorem ownBufs_S :
    (ownBufs (S d c) : sProp 𝕄)
      = iprop((∃ f, (sCol).view.loc (S d c) ↦{fullShare} f) ∗ (∃ f, (sVal).view.loc (S d c) ↦{fullShare} f) ∗ (∃ f, (sAcc).view.loc (S d c) ↦{fullShare} f)
          ∗ bigSep ((((ownRefs (τ := τ) (.scScalar c)).erase (bCol c)).erase (bVal c)).erase (bAcc c))
              fun b => iprop(∃ f, ((d, b) : Loc nD τ sig) ↦{fullShare} f)) := by
  unfold SparseCore.Cfg.ownBufs
  rw [show (S d c : Thread nD τ).2 = .scScalar c from rfl, SparseCore.bigSep_erase' (i := bCol c) (mem_own1 c),
    SparseCore.bigSep_erase' (i := bVal c) (Finset.mem_erase.mpr ⟨by revert c; decide, mem_own2 c⟩),
    SparseCore.bigSep_erase' (i := bAcc c) (Finset.mem_erase.mpr ⟨by revert c; decide, Finset.mem_erase.mpr ⟨by revert c; decide, mem_own3 c⟩⟩)]

omit [FloatOps F] in
/-- Owning the columns, the values or the call's result as the sequencer names them is owning them as the program does. -/
theorem pts_col (f : Buf (Elt F) (colLoc d)) : ((colW).view.loc (S d c) ↦{fullShare} f : sProp 𝕄) = colLoc d ↦{fullShare} f := by
  simp only [Memref.view_whole, View.set_whole]
omit [FloatOps F] in
theorem pts_val (f : Buf (Elt F) (valLoc d)) : ((valW).view.loc (S d c) ↦{fullShare} f : sProp 𝕄) = valLoc d ↦{fullShare} f := by
  simp only [Memref.view_whole, View.set_whole]
omit [FloatOps F] in
theorem pts_out (f : Buf (Elt F) (outLoc d)) : ((outW).view.loc (S d c) ↦{fullShare} f : sProp 𝕄) = outLoc d ↦{fullShare} f := by
  simp only [Memref.view_whole, View.set_whole]

/-- The grid coordinates of a sequencer. -/
def coordsS (c : Fin (grid0.bound 0)) : grid0.Coords := fun | 0 => c | ⟨_ + 1, h⟩ => absurd h (Nat.not_lt.2 (Nat.le_add_left _ _))

/-! ### The words the offsets are computed from -/

/-- The position the kernel computes for nonzero `k` is four times `k` plus the column. -/
theorem off1_eq (w : BitVec 32) (h : w.toNat < 4) : k0_off1 w 0 = w.toNat := by
  rcases Dense.word_cases w h with rfl | rfl | rfl | rfl <;> decide
theorem off2_eq (w : BitVec 32) (h : w.toNat < 4) : k0_off2 w 0 = 4 + w.toNat := by
  rcases Dense.word_cases w h with rfl | rfl | rfl | rfl <;> decide
theorem off3_eq (w : BitVec 32) (h : w.toNat < 4) : k0_off3 w 0 = 8 + w.toNat := by
  rcases Dense.word_cases w h with rfl | rfl | rfl | rfl <;> decide
theorem off4_eq (w : BitVec 32) (h : w.toNat < 4) : k0_off4 w 0 = 12 + w.toNat := by
  rcases Dense.word_cases w h with rfl | rfl | rfl | rfl <;> decide

/-- Each position lies within the sixteen elements. -/
theorem chk1 (w : BitVec 32) (h : w.toNat < 4) : k0_chk1 w := fun a => by
  obtain rfl : a = 0 := Subsingleton.elim _ _
  rw [off1_eq w h]; show w.toNat + 1 ≤ 16; omega
theorem chk2 (w : BitVec 32) (h : w.toNat < 4) : k0_chk2 w := fun a => by
  obtain rfl : a = 0 := Subsingleton.elim _ _
  rw [off2_eq w h]; show 4 + w.toNat + 1 ≤ 16; omega
theorem chk3 (w : BitVec 32) (h : w.toNat < 4) : k0_chk3 w := fun a => by
  obtain rfl : a = 0 := Subsingleton.elim _ _
  rw [off3_eq w h]; show 8 + w.toNat + 1 ≤ 16; omega
theorem chk4 (w : BitVec 32) (h : w.toNat < 4) : k0_chk4 w := fun a => by
  obtain rfl : a = 0 := Subsingleton.elim _ _
  rw [off4_eq w h]; show 12 + w.toNat + 1 ≤ 16; omega

/-! ### One-element stores of the accumulator -/

/-- A run of one-element stores reads, at an index, its last store if that is the index, else what the earlier ones left. -/
theorem writes_cell (f : (cc0_scratch3 : Ref sig .scScalar).ty.Contents (Elt F)) (off : Fin 1 → ℕ) (inb : ∀ a, off a + S1.size a ≤ S16.size a)
    (b : F .f32) (L : List (View.Piece (Elt F) S16 .f32)) (j : S16.Idx) :
    (sAcc).view.writes (Elt F) f (⟨Rect.unit (s := S16) off S1.size inb, fun _ => b⟩ :: L) j
      = if (j 0).val = off 0 then b else (sAcc).view.writes (Elt F) f L j := by
  rw [View.writes_cons]
  have he : ∀ x, (((sAcc).view.slice (Rect.unit (s := S16) off S1.size inb)).emb x 0).val = off 0 := by
    intro x
    show off 0 + 1 * (x 0).val = off 0
    have : (x 0).val < 1 := (x 0).isLt
    omega
  split
  · rename_i h
    have hj : ((sAcc).view.slice (Rect.unit (s := S16) off S1.size inb)).emb (fun a => ⟨0, (by obtain rfl : a = (0 : Fin 1) := Subsingleton.elim (α := Fin 1) _ _; exact Nat.one_pos)⟩) = j := by
      funext a
      obtain rfl : a = (0 : Fin 1) := Subsingleton.elim (α := Fin 1) _ _
      exact Fin.ext ((he _).trans h.symm)
    rw [← hj, View.write_emb_of_mem _ _ (Finset.mem_univ _)]
    rfl
  · rename_i h
    refine View.write_of_not_mem _ _ _ fun hm => h ?_
    obtain ⟨x, -, rfl⟩ := Finset.mem_map.mp hm
    exact he x

/-- Zeros stored one after the other from the front: when the positions below `n` hold `z` and `z` is stored at `n`, those
    below `n + 1` do. -/
theorem zero_cell (f : (cc0_scratch3 : Ref sig .scScalar).ty.Contents (Elt F)) (z : F .f32) (n : ℕ) (L : List (View.Piece (Elt F) S16 .f32))
    (hL : ∀ j : S16.Idx, (j 0).val < n → (sAcc).view.writes (Elt F) f L j = z)
    (off : Fin 1 → ℕ) (inb : ∀ a, off a + S1.size a ≤ S16.size a) (hoff : off 0 = n) :
    ∀ j : S16.Idx, (j 0).val < n + 1 → (sAcc).view.writes (Elt F) f (⟨Rect.unit (s := S16) off S1.size inb, fun _ => z⟩ :: L) j = z := by
  intro j hj
  rw [writes_cell]
  split
  · rfl
  · exact hL j (by omega)

/-- A store of "what stands here plus `b`" is `Dense.put`. -/
theorem add_cell (f : (cc0_scratch3 : Ref sig .scScalar).ty.Contents (Elt F)) (L : List (View.Piece (Elt F) S16 .f32)) (A : S16.Idx → F .f32)
    (hL : (sAcc).view.writes (Elt F) f L = A) (off : Fin 1 → ℕ) (inb : ∀ a, off a + S1.size a ≤ S16.size a) (p : ℕ) (hp : off 0 = p)
    (a b b' : F .f32) (x : (Rect.unit (s := S16) off S1.size inb).toLoadRect.shape.Idx)
    (ha : a = (sAcc).view.readAt (Elt F) (Rect.unit (s := S16) off S1.size inb).toLoadRect ((sAcc).view.writes (Elt F) f L) x) (hb : b = b') :
    (sAcc).view.writes (Elt F) f (⟨Rect.unit (s := S16) off S1.size inb, fun _ => Scalar.addf a b⟩ :: L) = Dense.put A p b' := by
  funext j
  rw [writes_cell, hL, hp, ← hb]
  unfold Dense.put
  split
  · rename_i h
    rw [ha, hL, View.readAt_apply]
    have hj : (Rect.unit (s := S16) off S1.size inb).toLoadRect.idx x = j := by
      funext a
      obtain rfl : a = (0 : Fin 1) := Subsingleton.elim (α := Fin 1) _ _
      apply Fin.ext
      show off 0 + 1 * (x 0).val = (j 0).val
      have : (x 0).val < 1 := (x 0).isLt
      omega
    rw [hj]; rfl
  · rfl

omit [FloatOps F] in
/-- A load from the scratch columns, once copied in, reads the columns. -/
theorem read_landed (fc : Buf (Elt F) (colLoc d)) (gc : Buf (Elt F) ((sCol).view.loc (S d c))) (r : LoadRect S4) (x : r.shape.Idx) :
    (sCol).view.readAt (Elt F) r ((sCol).view.write (Elt F) gc ((ReadAs.same : ReadAs (Elt F) S4 .i32 S4 .i32).apply ((colW).view.read (Elt F) fc)) Finset.univ) x = fc (r.idx x) := by
  rw [View.readAt_apply]
  simp only [Memref.view_whole, View.write_whole_univ]
  rfl

omit [FloatOps F] in
/-- A load from the scratch values, once copied in, reads the values. -/
theorem read_val (fv : Buf (Elt F) (valLoc d)) (gv : Buf (Elt F) ((sVal).view.loc (S d c))) (r : LoadRect S4) (x : r.shape.Idx) :
    (sVal).view.readAt (Elt F) r ((sVal).view.write (Elt F) gv ((ReadAs.same : ReadAs (Elt F) S4 .f32 S4 .f32).apply ((valW).view.read (Elt F) fv)) Finset.univ) x = fv (r.idx x) := by
  rw [View.readAt_apply]
  simp only [Memref.view_whole, View.write_whole_univ]
  rfl

/-- The one index of a one-element rectangle at `k` names position `k`. -/
theorem idx_pos (k : Fin 4) (off : Fin 1 → ℕ) (inb : ∀ a, off a + S1.size a ≤ S4.size a) (h : off 0 = k.val)
    (x : (Rect.unit (s := S4) off S1.size inb).toLoadRect.shape.Idx) : (Rect.unit (s := S4) off S1.size inb).toLoadRect.idx x = Dense.pos k := by
  refine Dense.eq_pos _ _ ?_
  show off 0 + 1 * (x 0).val = k.val
  have : (x 0).val < 1 := (x 0).isLt
  omega

omit [FloatOps F] in
/-- A loaded column is below four when all columns are. -/
theorem read_lt (fc : Buf (Elt F) (colLoc d)) (hcol : ∀ j, (fc j).toNat < 4) (gc : Buf (Elt F) ((sCol).view.loc (S d c))) (r : LoadRect S4) (x : r.shape.Idx) :
    ((sCol).view.readAt (Elt F) r ((sCol).view.write (Elt F) gc ((ReadAs.same : ReadAs (Elt F) S4 .i32 S4 .i32).apply ((colW).view.read (Elt F) fc)) Finset.univ) x : BitVec 32).toNat < 4 := by
  rw [read_landed]; exact hcol _

/-- The kernel on its arrays: with every column below four it hands back the columns and the values as they were, the call's
    result at `Dense.dense` of the two, the scratch arrays at some contents, and its two semaphores at zero. -/
theorem body (i : Fin (grid0.bound 0)) (O : CellTallies nD τ sig (HIx 1)) (W : Waits sig (HIx 1)) (fc : Buf (Elt F) (colLoc d)) (fv : Buf (Elt F) (valLoc d)) (fo : Buf (Elt F) (outLoc d))
    (gc : Buf (Elt F) ((sCol).view.loc (S d (i.castLE hcore0)))) (gv : Buf (Elt F) ((sVal).view.loc (S d (i.castLE hcore0)))) (ga : Buf (Elt F) ((sAcc).view.loc (S d (i.castLE hcore0))))
    (hcol : ∀ j, (fc j).toNat < 4) (hin : Transfers.BatchOf (S d (i.castLE hcore0)) (SemLoc.dma (sig := sig) cc0_scratch4.sem) 2) :
    iprop((Transfers.MayWaits (S d (i.castLE hcore0)) (none : HIx 1) O : sProp 𝕄)
        ∗ ((colW).view.loc (S d (i.castLE hcore0)) ↦{fullShare} fc) ∗ ((valW).view.loc (S d (i.castLE hcore0)) ↦{fullShare} fv) ∗ ((outW).view.loc (S d (i.castLE hcore0)) ↦{fullShare} fo)
        ∗ ((sCol).view.loc (S d (i.castLE hcore0)) ↦{fullShare} gc) ∗ ((sVal).view.loc (S d (i.castLE hcore0)) ↦{fullShare} gv) ∗ ((sAcc).view.loc (S d (i.castLE hcore0)) ↦{fullShare} ga)
        ∗ semVal (inCell d (i.castLE hcore0)) 0 ∗ semVal (outCell d (i.castLE hcore0)) 0 ∗ owes (S d (i.castLE hcore0)) O W)
      ⊢ wp frame (wpE (defs₀ (F := F)) 𝒱₀ (S d (i.castLE hcore0)) none) Set.univ
          (cc0__csr_to_dense_sc (coordsS i) rowW (Memref.isWhole_whole _) colW (Memref.isWhole_whole _) valW (Memref.isWhole_whole _) outW (Memref.isWhole_whole _)
            sRow (Memref.isWhole_whole _) sCol (Memref.isWhole_whole _) sVal (Memref.isWhole_whole _) sAcc (Memref.isWhole_whole _) cc0_scratch4 cc0_scoped0)
          fun _ => iprop(((colW).view.loc (S d (i.castLE hcore0)) ↦{fullShare} fc : sProp 𝕄) ∗ ((valW).view.loc (S d (i.castLE hcore0)) ↦{fullShare} fv)
            ∗ ((outW).view.loc (S d (i.castLE hcore0)) ↦{fullShare} Dense.dense fc fv)
            ∗ (∃ f, (sCol).view.loc (S d (i.castLE hcore0)) ↦{fullShare} f) ∗ (∃ f, (sVal).view.loc (S d (i.castLE hcore0)) ↦{fullShare} f)
            ∗ (∃ f, (sAcc).view.loc (S d (i.castLE hcore0)) ↦{fullShare} f)
            ∗ semVal (inCell d (i.castLE hcore0)) 0 ∗ semVal (outCell d (i.castLE hcore0)) 0
            ∗ ∃ W', ⌜∀ p ∈ W', p ∈ W ∨ p.2 = none⌝ ∗ owes (S d (i.castLE hcore0)) O W') := by
  rw [cc0__csr_to_dense_sc_eq_skeleton]
  unfold cc0__csr_to_dense_sc_skel
  iintro ⟨#Hmw, Hc, Hv, Ho, Hsc, Hsv, Hsa, Hin, Hout, HO⟩
  sl_exec (disch := (first | with_reducible refine chk1 _ ?_ | with_reducible refine chk2 _ ?_ | with_reducible refine chk3 _ ?_ | with_reducible refine chk4 _ ?_); exact read_lt d (i.castLE hcore0) fc hcol gc _ _)
  have key : (sAcc).view.writes (Elt F) (sAcc).view.junk (body.sl.Hsa_20 d i fc fv gc gv hcol) = Dense.dense fc fv := by
    unfold body.sl.Hsa_20
    refine add_cell _ _ _ ?_ _ _ _ ?_ _ _ _ _ rfl ?_
    · unfold body.sl.Hsa_19
      refine add_cell _ _ _ ?_ _ _ _ ?_ _ _ _ _ rfl ?_
      · unfold body.sl.Hsa_18
        refine add_cell _ _ _ ?_ _ _ _ ?_ _ _ _ _ rfl ?_
        · unfold body.sl.Hsa_17
          refine add_cell _ _ _ ?_ _ _ _ ?_ _ _ _ _ rfl ?_
          · funext j
            exact zero_cell _ _ 15 _ (zero_cell _ _ 14 _ (zero_cell _ _ 13 _ (zero_cell _ _ 12 _ (
              zero_cell _ _ 11 _ (zero_cell _ _ 10 _ (zero_cell _ _ 9 _ (zero_cell _ _ 8 _ (
              zero_cell _ _ 7 _ (zero_cell _ _ 6 _ (zero_cell _ _ 5 _ (zero_cell _ _ 4 _ (
              zero_cell _ _ 3 _ (zero_cell _ _ 2 _ (zero_cell _ _ 1 _ (zero_cell _ _ 0 _ (fun _ h => absurd h (Nat.not_lt_zero _))
              _ _ rfl) _ _ rfl) _ _ rfl) _ _ rfl) _ _ rfl) _ _ rfl) _ _ rfl) _ _ rfl) _ _ rfl) _ _ rfl) _ _ rfl) _ _ rfl) _ _ rfl) _ _ rfl) _ _ rfl) _ _ rfl j (j 0).isLt
          · refine (off1_eq _ (read_lt d _ fc hcol gc _ _)).trans ?_
            exact congrArg BitVec.toNat ((read_landed d _ fc gc _ _).trans (congrArg fc (idx_pos 0 _ _ rfl _)))
          · exact (read_val d _ fv gv _ _).trans (congrArg fv (idx_pos 0 _ _ rfl _))
        · refine (off2_eq _ (read_lt d _ fc hcol gc _ _)).trans ?_
          exact congrArg (4 + BitVec.toNat ·) ((read_landed d _ fc gc _ _).trans (congrArg fc (idx_pos 1 _ _ rfl _)))
        · exact (read_val d _ fv gv _ _).trans (congrArg fv (idx_pos 1 _ _ rfl _))
      · refine (off3_eq _ (read_lt d _ fc hcol gc _ _)).trans ?_
        exact congrArg (8 + BitVec.toNat ·) ((read_landed d _ fc gc _ _).trans (congrArg fc (idx_pos 2 _ _ rfl _)))
      · exact (read_val d _ fv gv _ _).trans (congrArg fv (idx_pos 2 _ _ rfl _))
    · refine (off4_eq _ (read_lt d _ fc hcol gc _ _)).trans ?_
      exact congrArg (12 + BitVec.toNat ·) ((read_landed d _ fc gc _ _).trans (congrArg fc (idx_pos 3 _ _ rfl _)))
    · exact (read_val d _ fv gv _ _).trans (congrArg fv (idx_pos 3 _ _ rfl _))
  clear hin
  sl_step
  have hres : View.write (Elt F) (outW).view fo (body.sl.dma52 d i fc fv gc gv hcol) Finset.univ = Dense.dense fc fv := by
    rw [show body.sl.dma52 d i fc fv gc gv hcol = Dense.dense fc fv from key]
    simp only [Memref.view_whole, View.write_whole_univ]
  isplitl [Hc]; · iexact Hc
  isplitl [Hv]; · iexact Hv
  isplitl [Ho]; · rw [← hres]; iexact Ho
  isplitl [Hsc]; · iexists _; iexact Hsc
  isplitl [Hsv]; · iexists _; iexact Hsv
  isplitl [Hsa]; · iexists _; iexact Hsa
  isplitl [Hin]; · iexact Hin
  isplitl [Hout]; · iexact Hout
  iexists _; isplitr [HO]
  rotate_left
  · iexact HO
  · ipureintro; intro p hp
    simp only [Finset.mem_insert] at hp
    rcases hp with rfl | rfl | rfl | hp
    · exact .inr rfl
    · exact .inr rfl
    · exact .inr rfl
    · exact .inl hp

/-! ### The kernel between the launch's resources -/

/-- What the call hands the sequencer: the columns and the values at their launch contents, the call's result at any. -/
def callIn : sProp 𝕄 := iprop((colLoc d ↦{fullShare} m (colLoc d)) ∗ (valLoc d ↦{fullShare} m (valLoc d)) ∗ ∃ f, outLoc d ↦{fullShare} f)

/-- What it hands back: the same, the result now at `Dense.dense` of the columns and the values. -/
def callOut : sProp 𝕄 :=
  iprop((colLoc d ↦{fullShare} m (colLoc d)) ∗ (valLoc d ↦{fullShare} m (valLoc d)) ∗ outLoc d ↦{fullShare} Dense.dense (m (colLoc d)) (m (valLoc d)))

/-- The kernel from the sequencer's whole scoped storage: it takes the three scratch arrays and the two transfer
    semaphores it uses out of it, runs by `body`, and puts them back. -/
theorem core (i : Fin (grid0.bound 0)) (O : CellTallies nD τ sig (HIx 1)) (W : Waits sig (HIx 1)) (hO : ∀ g, O g none = 0)
    (hcol : ∀ j, (m (colLoc d) j : BitVec 32).toNat < 4) :
    iprop(levAts (K (F := F)).L (K (F := F)).lev ∗ emp ∗ callIn m d
        ∗ scopedBufs (S d (i.castLE hcore0)) ∗ scopedSems0 (S d (i.castLE hcore0)) ∗ owes (S d (i.castLE hcore0)) O W)
      ⊢ wp frame (wpE (defs₀ (F := F)) 𝒱₀ (S d (i.castLE hcore0)) none) Set.univ
          (cc0__csr_to_dense_sc (coordsS i) rowW (Memref.isWhole_whole _) colW (Memref.isWhole_whole _) valW (Memref.isWhole_whole _) outW (Memref.isWhole_whole _)
            sRow (Memref.isWhole_whole _) sCol (Memref.isWhole_whole _) sVal (Memref.isWhole_whole _) sAcc (Memref.isWhole_whole _) cc0_scratch4 cc0_scoped0)
          fun _ => iprop(callOut m d ∗ scopedBufs (S d (i.castLE hcore0)) ∗ scopedSems0 (S d (i.castLE hcore0))
            ∗ ∃ W', ⌜∀ p ∈ W', p ∈ W ∨ p.2 = none⌝ ∗ owes (S d (i.castLE hcore0)) O W') := by
  unfold callIn callOut
  iintro ⟨#Hlv, -, ⟨Hc, Hv, %fo, Ho⟩, Hsb, Hss, HO⟩
  ihave Hss' := (SparseCore.Cfg.scopedSems0_S_elim (Val := Elt F) d (i.castLE hcore0)) $$ Hss
  icases Hss' with ⟨Hown, Hsubs⟩
  ihave Hown' := (Entails.of_eq (ownSems0_S (F := F) d (i.castLE hcore0))) $$ Hown
  icases Hown' with ⟨Hin, Hout, Hrest⟩
  ihave Hsb' := ((K (F := F)).scopedBufs_S_elim facts d (i.castLE hcore0)) $$ Hsb
  icases Hsb' with ⟨Hob, Hvb⟩
  ihave Hob' := (Entails.of_eq (ownBufs_S (F := F) d (i.castLE hcore0))) $$ Hob
  icases Hob' with ⟨⟨%gc, Hsc⟩, ⟨%gv, Hsv⟩, ⟨%ga, Hsa⟩, Hbrest⟩
  ihave Hmw := ((K (F := F)).mayWaits_none (thr := S d (i.castLE hcore0)) hO) $$ Hlv
  iapply (wp_wand frame _ _) $$ [Hmw Hc Hv Ho Hsc Hsv Hsa Hin Hout HO]
  · iapply (body (F := F) d i O W (m (colLoc d)) (m (valLoc d)) fo gc gv ga hcol (Transfers.BatchOf.intro _ _ _))
    isplitl [Hmw]; · iexact Hmw
    isplitl [Hc]; · iapply (Entails.of_eq (pts_col (F := F) d _ _).symm); iexact Hc
    isplitl [Hv]; · iapply (Entails.of_eq (pts_val (F := F) d _ _).symm); iexact Hv
    isplitl [Ho]; · iapply (Entails.of_eq (pts_out (F := F) d _ _).symm); iexact Ho
    isplitl [Hsc]; · iexact Hsc
    isplitl [Hsv]; · iexact Hsv
    isplitl [Hsa]; · iexact Hsa
    isplitl [Hin]; · iexact Hin
    isplitl [Hout]; · iexact Hout
    iexact HO
  iintro %_ ⟨Hc, Hv, Ho, Hsc, Hsv, Hsa, Hin, Hout, HO⟩
  isplitl [Hc Hv Ho]
  · isplitl [Hc]; · iapply (Entails.of_eq (pts_col (F := F) d _ _)); iexact Hc
    isplitl [Hv]; · iapply (Entails.of_eq (pts_val (F := F) d _ _)); iexact Hv
    iapply (Entails.of_eq (pts_out (F := F) d _ _)); iexact Ho
  isplitl [Hsc Hsv Hsa Hbrest Hvb]
  · iapply ((K (F := F)).scopedBufs_S_intro facts d (i.castLE hcore0))
    isplitr [Hvb]
    · rw [ownBufs_S]
      isplitl [Hsc]; · iexact Hsc
      isplitl [Hsv]; · iexact Hsv
      isplitl [Hsa] <;> iassumption
    · iexact Hvb
  isplitl [Hin Hout Hrest Hsubs]
  · iapply (SparseCore.Cfg.scopedSems0_S_intro (Val := Elt F) d _)
    isplitr [Hsubs]
    · rw [ownSems0_S]
      isplitl [Hin]; · iexact Hin
      isplitl [Hout] <;> iassumption
    · iexact Hsubs
  iexact HO

end Body

/-! ## The call's payloads -/

/-- Both can be stored in the handshake's invariant. -/
instance callIn_storable (d : Dev nD) : BI.Storable (upEmb : UEmb _ 𝕄) (callIn m d) := by unfold callIn; infer_instance
instance callOut_storable (d : Dev nD) : BI.Storable (upEmb : UEmb _ 𝕄) (callOut m d) := by unfold callOut; infer_instance

/-- The one sequencer of the call gets `callIn` and gives `callOut`; the kernel has no tasks and keeps nothing from the launch. -/
def P : (K (F := F)).Pay (nD := nD) (Val := Elt F) (Name := ℕ) (U := UU) where
  st := fun _ d _ => callIn m d
  dn := fun _ d _ => callOut m d
  go := fun _ _ _ _ => iprop(emp)
  td := fun _ _ _ _ => iprop(emp)
  x := fun _ _ => iprop(emp)

/-- Every payload of the call can be stored. -/
instance P_storable : (P (F := F) m).IsStorable where
  st _ d c := by unfold P; infer_instance
  dn _ d c := by unfold P; infer_instance
  go _ _ _ _ := by unfold P; infer_instance
  td _ _ _ _ := by unfold P; infer_instance

/-- Every column of every device lies below four: all the run needs of the launch's contents. -/
def ColsBelow : Prop := ∀ (d : Dev nD) (j : (colLoc d).ty.Idx), (m (colLoc d) j : BitVec 32).toNat < 4

/-- What a sequencer runs for the call: the kernel, on the cores of the call's grid. -/
theorem defs₀_scalar (c : Fin τ.nSC) :
    defs₀ (F := F) (.scScalar c) 0 ()
      = SparseCore.onCore hcore0 (fun c => cc0__csr_to_dense_sc (coordsS c) rowW (Memref.isWhole_whole _) colW (Memref.isWhole_whole _) valW (Memref.isWhole_whole _) outW (Memref.isWhole_whole _)
            sRow (Memref.isWhole_whole _) sCol (Memref.isWhole_whole _) sVal (Memref.isWhole_whole _) sAcc (Memref.isWhole_whole _) cc0_scratch4 cc0_scoped0) ⟨⟩ c := rfl

/-- The launch's obligation for the call: `core`, at the sequencer the call's grid has. -/
theorem scalarObl (hcol : ColsBelow m) : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  refine (core m d ⟨c.val, c.isLt⟩ O W hO (hcol d)).trans (wp_mono frame _ _ fun _ => ?_)
  show iprop(callOut m d ∗ _ ∗ _ ∗ _) ⊢ iprop(callOut m d ∗ _)
  iintro ⟨Hc, Hb, Hs, %W', %hW', HO⟩
  isplitl [Hc]; · iexact Hc
  isplitl [Hb]; · iexact Hb
  isplitl [Hs]; · iexact Hs
  iexists W'; isplitr
  · ipureintro; intro p hp
    rcases hW' p hp with h | h
    · exact .inl h
    · exact .inr (.inl h)
  · iexact HO

/-! ## The launch element: the rounds of the handshakes alone -/

/-- The element the launch starts from. -/
def u₀ : UU := (initOf (K (F := F)).hsCells (K (F := F)).hsToks, 1)

/-- It gives the handshakes' rounds; the devices and the threads need nothing more. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀ P
  dsimp only
  have e : ∀ {I : Type} (s : Finset I), (bigSep s fun _ => iprop(emp)) = (iprop(emp) : sProp 𝕄) := fun s => bigSep_emp_const s
  simp only [e]
  iintro Hu
  ihave H := (ownU_pair _ _) $$ Hu
  icases H with ⟨HH, -⟩
  imodintro
  isplitl [HH]; · iexact HH
  isplitr <;> iempintro

/-! ## The program on the TensorCore: the call, then its result reshaped -/

/-- The call's result, the program's result, and the reshape between them. -/
abbrev out' : DevRef τ sig := Proc.devRef .tc (main_v0 : Ref sig .tc)
abbrev res' : DevRef τ sig := Proc.devRef .tc (main_v1 : Ref sig .tc)
abbrev opReshape : HloOp τ sig (Elt F) := StableHlo.reshape main_v0 main_v1 (rfl : (.f32 : EltTy) = .f32) shapeCasts_S16_S4x4

/-- The two arrays of the reshape. -/
abbrev Both : Finset (DevRef τ sig) := {out', res'}

omit [FloatOps F] in
/-- Holding both is owning each. -/
theorem held_Both (d : Dev nD) (W : Valuation τ sig (Elt F)) :
    (held (T d) Both W : sProp 𝕄) = iprop((outLoc d ↦{fullShare} W out') ∗ resLoc d ↦{fullShare} W res') := by
  unfold held Both
  rw [SparseCore.bigSep_insert' (by decide), bigSep_singleton]

omit [FloatOps F] in
/-- The program's arrays are the five named above. -/
theorem unscopedBufs_eq (d : Dev nD) (W : (b : Ref sig .tc) → Buf (Elt F) ((d.tc : Thread nD τ).loc b)) :
    (unscopedBufs d W : sProp 𝕄)
      = iprop((rowLoc d ↦{fullShare} W main_arg0) ∗ (colLoc d ↦{fullShare} W main_arg1) ∗ (valLoc d ↦{fullShare} W main_arg2)
          ∗ (outLoc d ↦{fullShare} W main_v0) ∗ resLoc d ↦{fullShare} W main_v1) := by
  unfold unscopedBufs
  rw [show (Finset.univ.filter fun b : Ref sig .tc => ¬ b.isScoped) = {main_arg0, main_arg1, main_arg2, main_v0, main_v1} by decide,
    SparseCore.bigSep_insert' (by decide), SparseCore.bigSep_insert' (by decide), SparseCore.bigSep_insert' (by decide),
    SparseCore.bigSep_insert' (by decide), bigSep_singleton]

/-- What the program's result holds: `Dense.dense` of the columns and the values, at four rows of four. -/
def denseRes (d : Dev nD) : Buf (Elt F) (resLoc d) :=
  shapeCast S4x4 (Dense.dense (m (colLoc d)) (m (valLoc d))) shapeCasts_S16_S4x4

/-- The launch's contents with the call's result at `Dense.dense`. -/
def afterCall (d : Dev nD) : Valuation τ sig (Elt F) :=
  Function.update (fun b => m (d, b)) out' (Dense.dense (m (colLoc d)) (m (valLoc d)))

/-- Its call's result is `Dense.dense`; its program result is the launch's. -/
theorem afterCall_out (d : Dev nD) : afterCall m d out' = Dense.dense (m (colLoc d)) (m (valLoc d)) := Function.update_self _ _ _
theorem afterCall_res (d : Dev nD) : afterCall m d res' = m (resLoc d) := Function.update_of_ne (show res' ≠ out' by decide) _ _

/-- After the reshape the program's result holds `denseRes`. -/
theorem held_reshaped (d : Dev nD) :
    (held (T d) Both ((opReshape (F := F)).result (afterCall m d)) : sProp 𝕄)
      ⊢ resLoc d ↦{fullShare} denseRes m d := by
  rw [held_Both, show (opReshape (F := F)).result (afterCall m d) res' = denseRes m d from by
    refine (StableHlo.reshape_result main_v0 main_v1 _ _ _ _ _).trans ?_
    rw [show afterCall m d out' = _ from afterCall_out m d]
    rfl]
  iintro ⟨-, H⟩
  iexact H

/-- The call starts one sequencer: what all are handed, and what all hand back, is that one's. -/
theorem st0_eq (d : Dev nD) : (bigSep Finset.univ fun c : Fin ((K (F := F)).nCore 0) => (P m).st 0 d c) = callIn m d :=
  bigSep_univ_of_subsingleton (0 : Fin 1)
theorem dn0_eq (d : Dev nD) : (bigSep Finset.univ fun c : Fin ((K (F := F)).nCore 0) => (P m).dn 0 d c) = callOut m d :=
  bigSep_univ_of_subsingleton (0 : Fin 1)

/-- What the program leaves: the three arguments at their launch contents and the result at `denseRes`. -/
abbrev FIN (d : Dev nD) : sProp 𝕄 :=
  iprop((rowLoc d ↦{fullShare} m (rowLoc d)) ∗ (colLoc d ↦{fullShare} m (colLoc d)) ∗ (valLoc d ↦{fullShare} m (valLoc d)) ∗ resLoc d ↦{fullShare} denseRes m d)

/-- The program on the TensorCore: the call, then the reshape, leaving `FIN`. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hr, Hc, Hv, Ho, Hres⟩, Hts, -⟩, -⟩
  iapply ((K (F := F)).wp_run (D (F := F)) 𝒱 (EH := EH) (P := P m) κ d 0) $$ [Hst Hr Hc Hv Ho Hb Hres Hts]
  isplitr; · iexact Hctx
  isplitl [Hst]; · iexact Hst
  isplitl [Hc Hv Ho]
  · rw [st0_eq]; unfold callIn
    isplitl [Hc]; · iexact Hc
    isplitl [Hv]; · iexact Hv
    iexists _; iexact Ho
  iintro ⟨Hst, Hdn⟩
  ihave Hdn' := (Entails.of_eq (dn0_eq m d)) $$ Hdn
  unfold callOut
  icases Hdn' with ⟨Hc, Hv, Ho⟩
  iapply (wp_hlo_within 𝒱 (SparseCore.T d) none Set.univ (op := opReshape) (S := Both) (Finset.Subset.refl _) (V := afterCall m d)) $$ [Hb Ho Hres]
  · isplitl [Hb]; · iexact Hb
    rw [held_Both, afterCall_out, afterCall_res]
    isplitl [Ho] <;> iassumption
  iintro ⟨Hb, Hheld⟩
  ihave Hres := (held_reshaped (F := F) m d) $$ Hheld
  rw [wp_ret]; imodintro; imodintro
  isplitl [Hst]; · iexact Hst
  isplitr [Hb Hts]
  · isplitl [Hr]; · iexact Hr
    isplitl [Hc]; · iexact Hc
    isplitl [Hv] <;> iassumption
  isplitl [Hb] <;> iassumption

/-- `FIN` as a fact of the memory at the end. -/
def fq (d : Dev nD) (s' : Phys nD τ sig (Elt F)) : Prop :=
  (s'.mem.mem (rowLoc d) = m (rowLoc d) ∧ s'.mem.mem (colLoc d) = m (colLoc d) ∧ s'.mem.mem (valLoc d) = m (valLoc d)) ∧ s'.mem.mem (resLoc d) = denseRes m d

/-- A whole array owned is what the memory holds; the ownership of the memory is kept. -/
theorem reads (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%h, ⟨HSI, -⟩⟩
  isplitr
  · ipureintro; exact funext fun i => h i (Finset.mem_univ i)
  · iexact HSI

/-- Owning what the program leaves makes it a fact of the memory. -/
theorem hfin (d : Dev nD) (s' : Phys nD τ sig (Elt F)) : iprop(FIN m d ∗ SI s') ⊢ (⌜fq m d s'⌝ : sProp 𝕄) := by
  iintro ⟨⟨Hr, Hc, Hv, Hres⟩, HSI⟩
  ihave H := (reads (F := F) (rowLoc d) _ s') $$ [Hr HSI]
  · isplitl [Hr] <;> iassumption
  icases H with ⟨%h0, HSI⟩
  ihave H := (reads (F := F) (colLoc d) _ s') $$ [Hc HSI]
  · isplitl [Hc] <;> iassumption
  icases H with ⟨%h1, HSI⟩
  ihave H := (reads (F := F) (valLoc d) _ s') $$ [Hv HSI]
  · isplitl [Hv] <;> iassumption
  icases H with ⟨%h2, HSI⟩
  ihave H := (reads (F := F) (resLoc d) _ s') $$ [Hres HSI]
  · isplitl [Hres] <;> iassumption
  icases H with ⟨%h3, -⟩
  ipureintro; exact ⟨⟨h0, h1, h2⟩, h3⟩

/-! ## The program's run -/

/-- At the end every device holds its arguments as at the launch and its result at `denseRes`, and every semaphore counter is zero. -/
def QC : PUnit × MemSt nD τ sig (Elt F) → Prop := fun r =>
  (∀ c : Dev nD, (r.2.mem (rowLoc c) = m (rowLoc c) ∧ r.2.mem (colLoc c) = m (colLoc c) ∧ r.2.mem (valLoc c) = m (valLoc c)) ∧ r.2.mem (resLoc c) = denseRes m c)
    ∧ r.2.sem = fun _ => 0

/-- From any launch whose columns lie below four, the program terminates without a fault in a state as `QC` says. -/
theorem run_main [∀ e, Nonempty (Elt F e)] (hcol : ColsBelow m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m hcol)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h hz => ⟨h, hz⟩)

end Cert.Proof.KernelIdealRun

end
-- ==== Proof.Reference.lean ====
/-
  What the reference computes when row pointer `i` is `i` and every column is below four, over the extended reals:
  the four by four array that holds row `k`'s value at row `k`'s column and zero elsewhere.

  The reference finds the row of nonzero `k` as the number of row pointers that are at most `k`, less one; with the
  pointers `0 .. 4` that is `k`. It then adds value `k` into a zero array at (row of `k`, column of `k`).
-/
module

public import proofs.«01_k».proof.Proof.Gen.ReferenceIdeal
public import Idealize.ShloMosaic.Lib.StableHlo.Predicate
public import Idealize.ShloMosaic.PureOps.Ideal
public import Idealize.ShloMosaic.Lib.Pipeline.Value
public import Idealize.ShloMosaic.Lib.Routing.OpsPair
public import proofs.«01_k».proof.Proof.Dense

@[expose] public section

noncomputable section

namespace Cert.Proof.Reference

open Cert.ReferenceIdeal Cert.ReferenceIdeal.Gen Idealize.ShloMosaic
open Idealize.ShloMosaic.StableHlo.Predicate (ij ixP i1q)

/-! ## The reference's arrays, named -/

/-- Bit `(k, p)`: row pointer `p` is at most `k`. -/
def mask (row : IVec S5 32) : IVec S4x5 1 :=
  cmpi .sle (broadcastInDim S4x5 ![0, 1] bcast_S1x5_S4x5_0_1 (broadcastInDim S1x5 ![1] bcast_S5_S1x5_1 row))
    (broadcastInDim S4x5 ![0, 1] bcast_S4x1_S4x5_0_1 (broadcastInDim S4x1 ![0] bcast_S4_S4x1_0 (iotaInDim S4 32 0)))

/-- The row of each nonzero: how many row pointers are at most `k`, less one. -/
def rowIds (row : IVec S5 32) : IVec S4 32 :=
  subi (Host.reduce IntOp.addi (extui 32 (mask row) natLt_1_32) (constantI S_ 32 0#32) reducesTo_S4x5_S4_d1 h_S_)
    (broadcastInDim S4 ![] bcast_S_S4 (constantI S_ 32 1#32))

/-- An index with four added where it is negative, as indexing does. -/
def wrap (x : IVec S4 32) : IVec S4 32 :=
  select (cmpi .slt x (broadcastInDim S4 ![] bcast_S_S4 (constantI S_ 32 0#32))) (addi x (broadcastInDim S4 ![] bcast_S_S4 (constantI S_ 32 4#32))) x

/-- The position each value goes to: row in column 0, column in column 1. -/
def starts (row : IVec S5 32) (col : IVec S4 32) : IVec S4x2 32 :=
  concatenate S4x2 1 [⟨S4x1, broadcastInDim S4x1 ![0] bcast_S4_S4x1_0 (wrap (rowIds row))⟩, ⟨S4x1, broadcastInDim S4x1 ![0] bcast_S4_S4x1_0 (wrap col)⟩]
    concatenates_S4x1_S4x1_S4x2_d1

/-- The reference's result. -/
def result (row : IVec S5 32) (col : IVec S4 32) (val : FVec Ideal S4 .f32) : FVec Ideal S4x4 .f32 :=
  Host.scatterAdd scatter_S4x4_S4x2_S4_n_01_01_1 (broadcastInDim S4x4 ![] bcast_S_S4x4 (constant S_ .f32 0x00000000#32)) (starts row col) val

/-! ## The rows -/

theorem mask_apply (row : IVec S5 32) (hrow : ∀ i, row i = BitVec.ofNat 32 (i 0).val) (k : Fin 4) (p : Fin 5) :
    mask row (ij k p) = 1#1 ↔ p.val ≤ k.val := by
  have e1 : broadcastInDim S4x5 ![0, 1] bcast_S1x5_S4x5_0_1 (broadcastInDim S1x5 ![1] bcast_S5_S1x5_1 row) (ij k p) = BitVec.ofNat 32 p.val := by
    rw [StableHlo.Predicate.bcast_of_row]
    exact hrow _
  have e2 : broadcastInDim S4x5 ![0, 1] bcast_S4x1_S4x5_0_1 (broadcastInDim S4x1 ![0] bcast_S4_S4x1_0 (iotaInDim S4 32 0)) (ij k p) = BitVec.ofNat 32 k.val := by
    rw [StableHlo.Predicate.bcast_of_col]
    rfl
  unfold mask cmpi
  rw [e1, e2]
  exact StableHlo.Predicate.sle_ofNat_iff _ _ (by omega) (by omega)

/-- With the row pointers `0 .. 4`, nonzero `k` lies in row `k`. -/
theorem rowIds_apply (row : IVec S5 32) (hrow : ∀ i, row i = BitVec.ofNat 32 (i 0).val) (k : Fin 4) :
    rowIds row (Dense.pos k) = BitVec.ofNat 32 k.val := by
  have hcount := StableHlo.Predicate.toNat_reduce_count_cols (n := 4) (m := 5) (by decide) (mask row) natLt_1_32 reducesTo_S4x5_S4_d1 h_S_ (Dense.pos k)
  have hcard : (Finset.univ.filter fun p : Fin 5 => mask row (ij k p) = 1#1).card = k.val + 1 := by
    rw [Finset.filter_congr fun p _ => mask_apply row hrow k p]
    clear hcount; revert k; decide
  rw [show ((Dense.pos k) 0 : Fin 4) = k from rfl, hcard] at hcount
  have hk := k.isLt
  show Host.reduce IntOp.addi (extui 32 (mask row) natLt_1_32) (constantI S_ 32 0#32) reducesTo_S4x5_S4_d1 h_S_ (Dense.pos k) - 1#32 = _
  apply BitVec.eq_of_toNat_eq
  rw [BitVec.toNat_sub, hcount, BitVec.toNat_ofNat, BitVec.toNat_ofNat]
  omega

/-- An index below four is not moved. -/
theorem wrap_apply (x : IVec S4 32) (j : S4.Idx) (h : (x j).toNat < 4) : wrap x j = x j :=
  Routing.wrap_of_lt _ _ (by show _ < 2 ^ 31; omega)

/-! ## Where each value goes -/

theorem starts_row (row : IVec S5 32) (col : IVec S4 32) (hrow : ∀ i, row i = BitVec.ofNat 32 (i 0).val) (k : Fin 4) :
    (starts row col (ij k 0)).toInt = k.val := by
  have e : starts row col (ij k 0) = wrap (rowIds row) (Dense.pos k) := by
    have hc := concatenate_pair_apply_left (t := S4x2) (s₁ := S4x1) (s₂ := S4x1) 1 (broadcastInDim S4x1 ![0] bcast_S4_S4x1_0 (wrap (rowIds row)))
      (broadcastInDim S4x1 ![0] bcast_S4_S4x1_0 (wrap col)) concatenates_S4x1_S4x1_S4x2_d1 (ij k 0) rfl (ixP k) fun b =>
        match b with
        | ⟨0, _⟩ => rfl
        | ⟨1, _⟩ => rfl
    exact hc.trans ((StableHlo.Predicate.bcast_col1 _ _ k).trans (congrArg (wrap (rowIds row)) (Dense.eq_pos _ k rfl)))
  have hk := k.isLt
  rw [e, wrap_apply _ _ (by rw [rowIds_apply row hrow, BitVec.toNat_ofNat]; omega), rowIds_apply row hrow, StableHlo.Predicate.toInt_ofNat_small _ (by omega)]

theorem starts_col (row : IVec S5 32) (col : IVec S4 32) (k : Fin 4) (h : (col (Dense.pos k)).toNat < 4) :
    (starts row col (ij k 1)).toInt = (col (Dense.pos k)).toNat := by
  have e : starts row col (ij k 1) = wrap col (Dense.pos k) := by
    have hc := concatenate_pair_apply_right (t := S4x2) (s₁ := S4x1) (s₂ := S4x1) 1 (broadcastInDim S4x1 ![0] bcast_S4_S4x1_0 (wrap (rowIds row)))
      (broadcastInDim S4x1 ![0] bcast_S4_S4x1_0 (wrap col)) concatenates_S4x1_S4x1_S4x2_d1 (ij k 1) rfl rfl (ixP k) (fun b hb =>
        match b, hb with
        | ⟨0, _⟩, _ => rfl
        | ⟨1, _⟩, hb => absurd rfl hb) rfl
    exact hc.trans ((StableHlo.Predicate.bcast_col1 _ _ k).trans (congrArg (wrap col) (Dense.eq_pos _ k rfl)))
  rw [e, wrap_apply _ _ h, StableHlo.Predicate.toInt_eq_toNat_of_lt (by omega)]

/-- Value `k` is added at element `i` exactly when `k`'s two index words are `i`'s row and column. -/
theorem lands (idx : IVec S4x2 32) (k : Fin 4) (i : S4x4.Idx) :
    scatter_S4x4_S4x2_S4_n_01_01_1.resultIdx? (Dense.pos k) idx = some i ↔ (idx (ij k 0)).toInt = (i 0).val ∧ (idx (ij k 1)).toInt = (i 1).val := by
  have hw : ∀ a : Fin 2, scatter_S4x4_S4x2_S4_n_01_01_1.window (Dense.pos k) a = 0 := by
    intro a; fin_cases a <;> rfl
  have hs : ∀ a : Fin 2, scatter_S4x4_S4x2_S4_n_01_01_1.start (Dense.pos k) idx a = (idx (ij k a)).toInt := by
    intro a
    have hm : a ∈ scatter_S4x4_S4x2_S4_n_01_01_1.scatterDimsToOperandDims := by revert a; decide
    have hsi : scatter_S4x4_S4x2_S4_n_01_01_1.siIdx (Dense.pos k)
        ⟨scatter_S4x4_S4x2_S4_n_01_01_1.scatterDimsToOperandDims.idxOf a, List.idxOf_lt_length_iff.2 hm⟩ = ij k a := by
      funext b
      apply Fin.ext
      match b with
      | ⟨0, _⟩ => rfl
      | ⟨1, _⟩ => fin_cases a <;> rfl
    unfold ScatterDims.start
    rw [dif_pos hm, hsi]
  rw [Routing.resultIdx?_eq_some]
  constructor
  · intro h
    refine ⟨?_, ?_⟩
    · have := h 0; rw [hw, hs] at this; simpa using this
    · have := h 1; rw [hw, hs] at this; simpa using this
  · rintro ⟨h0, h1⟩ a
    rw [hw, hs]
    match a with
    | ⟨0, _⟩ => simpa using h0
    | ⟨1, _⟩ => simpa using h1

/-! ## The result -/

/-- With the row pointers `0 .. 4` and the columns below four, element `(k, c)` of the reference's result is value `k`
    where `c` is column `k`, zero elsewhere. -/
theorem result_apply (row : IVec S5 32) (col : IVec S4 32) (val : FVec Ideal S4 .f32) (hrow : ∀ i, row i = BitVec.ofNat 32 (i 0).val)
    (hcol : ∀ j, (col j).toNat < 4) (i : S4x4.Idx) :
    result row col val i = if (col (Dense.pos (i 0))).toNat = (i 1).val then (Dense.zero : Ideal .f32) + val (Dense.pos (i 0)) else Dense.zero := by
  have hl : ∀ j : S4.Idx, scatter_S4x4_S4x2_S4_n_01_01_1.resultIdx? j (starts row col) = some i
      ↔ (j = Dense.pos (i 0) ∧ (col (Dense.pos (i 0))).toNat = (i 1).val) := by
    intro j
    obtain ⟨k, rfl⟩ : ∃ k : Fin 4, j = Dense.pos k := ⟨j 0, Dense.eq_pos _ _ rfl⟩
    rw [lands, starts_row row col hrow, starts_col row col k (hcol _)]
    constructor
    · rintro ⟨h0, h1⟩
      have hk : k = i 0 := Fin.ext (by exact_mod_cast h0)
      subst hk
      exact ⟨rfl, by exact_mod_cast h1⟩
    · rintro ⟨h0, h1⟩
      have hk : k = i 0 := congrFun h0 0
      subst hk
      exact ⟨rfl, by exact_mod_cast h1⟩
  show (Dense.zero : Ideal .f32) + ∑ j ∈ Finset.univ.filter (fun j => scatter_S4x4_S4x2_S4_n_01_01_1.resultIdx? j (starts row col) = some i), val j = _
  rw [Finset.filter_congr fun j _ => hl j]
  split
  · rename_i h
    rw [show (Finset.univ.filter fun j : S4.Idx => j = Dense.pos (i 0) ∧ (col (Dense.pos (i 0))).toNat = (i 1).val) = {Dense.pos (i 0)} from by
      ext j; simp [h], Finset.sum_singleton]
  · rename_i h
    rw [show (Finset.univ.filter fun j : S4.Idx => j = Dense.pos (i 0) ∧ (col (Dense.pos (i 0))).toNat = (i 1).val) = ∅ from by
      ext j; simp [h], Finset.sum_empty]
    exact add_zero (M := EReal) _

end Cert.Proof.Reference

end
-- ==== Proof.Equation.lean ====
/-
  The equation of the value claim: the reference's four by four result is the kernel's sixteen elements, laid out as
  four rows of four.
-/
module

public import proofs.«01_k».proof.Proof.Reference

@[expose] public section

noncomputable section

namespace Cert.Proof.Equation

open Cert.ReferenceIdeal Cert.ReferenceIdeal.Gen Idealize.ShloMosaic

/-- Row by row, element `(k, c)` of a four by four array is element `4 k + c` of the sixteen it is laid out from. -/
theorem flat_val (h : Dense.V16.ShapeCasts S4x4) (i : S4x4.Idx) : ((Shape.reshapeEquiv h i) 0).val = 4 * (i 0).val + (i 1).val := by
  have e := Shape.rowMajor_reshapeEquiv h i
  rw [Shape.rowMajor_val_one, Shape.rowMajor_val_two] at e
  exact e.trans (congrArg (· + (i 1).val) (Nat.mul_comm _ _))

/-- With the row pointers `0 .. 4` and the columns below four, the kernel's array as a matrix is the reference's. -/
theorem result_eq (row : IVec S5 32) (col : IVec S4 32) (val : FVec Ideal S4 .f32) (hrow : ∀ i, row i = BitVec.ofNat 32 (i 0).val)
    (hcol : ∀ j, (col j).toNat < 4) (h : Dense.V16.ShapeCasts S4x4) :
    Reference.result row col val = shapeCast S4x4 (Dense.dense col val) h := by
  funext i
  rw [Reference.result_apply row col val hrow hcol]
  exact (Dense.dense_apply col val hcol (Shape.reshapeEquiv h i) (i 0) (i 1).val (i 1).isLt (flat_val h i)).symm

end Cert.Proof.Equation

end
-- ==== Proof.lean ====
/-
  The proof of `Cert.Claim` (proofs.«01_k».proof.Defs): the frames of the kernel, of its idealization and of the
  reference, the idealization of the kernel, and the equality of the kernel's result and the reference's over the
  extended reals.

  The kernel's run is `KernelRun.run_main` (at the machine's floats) and `KernelIdealRun.run_main` (at the extended
  reals), the reference's is the generated `Cert.ReferenceIdeal.Value.run`; `Pre` reads the preconditions, and
  `Equation` equates the two results.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_cols_in_range
public import proofs.«01_k».proof.Proof.Gen.Pre_one_per_row
public import proofs.«01_k».proof.Proof.Pre
public import proofs.«01_k».proof.Proof.KernelRun
public import proofs.«01_k».proof.Proof.KernelIdealRun
public import proofs.«01_k».proof.Proof.Equation
public import Idealize.ShloMosaic.Adequacy
public import Idealize.ShloMosaic.Init

@[expose] public section

noncomputable section

namespace Cert.Proof

open Idealize.ShloMosaic Idealize.SL.Sem

/-- With every column below four the kernel runs, its arguments end unchanged and every semaphore counter at zero. -/
theorem frame_kernel : Cert.quiescent_Kernel := fun m g hpre =>
  (θ_run Cert.Kernel.defs _ _).mono (fun _ h => ⟨fun c => (h.1 c).1, h.2⟩)
    (KernelRun.run_main (F := Bits) m g fun d => Pre.cols_lt _ _ _ (hpre d))

/-- The same of the kernel read over the extended reals. -/
theorem frame_ideal : Cert.quiescent_KernelIdeal := fun m g hpre =>
  (θ_run Cert.KernelIdeal.defs _ _).mono (fun _ h => ⟨fun c => (h.1 c).1, h.2⟩)
    (KernelIdealRun.run_main (F := Ideal) m g fun d => Pre.cols_lt _ _ _ (hpre d))

/-- The same of the kernel read over the extended reals where, besides, each row has one nonzero. -/
theorem frame_ideal_one_per_row : Cert.quiescent_KernelIdeal_pre_one_per_row := fun m g hpre =>
  (θ_run Cert.KernelIdeal.defs _ _).mono (fun _ h => ⟨fun c => (h.1 c).1, h.2⟩)
    (KernelIdealRun.run_main (F := Ideal) m g fun d => (Pre.one_per_row _ _ _ (hpre d)).2)

/-- The reference runs and its arguments end unchanged; it has no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The same where each row has one nonzero. -/
theorem frame_reference_one_per_row : Cert.quiescent_ReferenceIdeal_pre_one_per_row := fun m g _ => frame_reference m g trivial

/-- Where each row has one nonzero and the columns are below four, the kernel and the reference, started on the same
    arguments, end with the same result. -/
theorem algebraic : Cert.algebraic_KernelIdeal_ReferenceIdeal_pre_one_per_row := by
  intro m g m' g' hpre hagree
  refine ⟨KernelIdealRun.denseRes m, (θ_run Cert.KernelIdeal.defs _ _).mono (fun _ h c => ⟨(h.1 c).2, (h.1 c).1⟩)
    (KernelIdealRun.run_main (F := Ideal) m g fun d => (Pre.one_per_row _ _ _ (hpre d)).2), ?_⟩
  refine (θ_run Cert.ReferenceIdeal.defs _ _).mono (fun _ h c => ⟨(h c).1.trans ?_, (h c).2⟩) (Cert.ReferenceIdeal.Value.run (F := Ideal) m' g')
  obtain ⟨h0, h1, h2⟩ := hagree c
  obtain ⟨hrow, hcol⟩ := Pre.one_per_row _ _ _ (hpre c)
  rw [h0, h1, h2]
  exact Equation.result_eq _ _ _ hrow hcol _

/-- `Cert.Claim` (proofs.«01_k».proof.Defs). -/
theorem claim : Cert.Claim :=
  ⟨Cert.Kernel.Gen.facts, Cert.KernelIdeal.Gen.facts, Cert.ReferenceIdeal.Gen.facts, Cert.Pre_cols_in_range.Gen.facts, Cert.Pre_one_per_row.Gen.facts,
    frame_kernel, frame_ideal, frame_ideal_one_per_row, frame_reference, frame_reference_one_per_row, trivial, algebraic⟩

end Cert.Proof

end
